-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x4096 : Shape := ⟨3, ![2, 8192, 4096]⟩
abbrev S2x256x128 : Shape := ⟨3, ![2, 256, 128]⟩
abbrev S2x8192x11008 : Shape := ⟨3, ![2, 8192, 11008]⟩
abbrev S16384x4096 : Shape := ⟨2, ![16384, 4096]⟩
abbrev S16384x11008 : Shape := ⟨2, ![16384, 11008]⟩
abbrev S512x128 : Shape := ⟨2, ![512, 128]⟩
abbrev S512x11008 : Shape := ⟨2, ![512, 11008]⟩
abbrev S256x11008 : Shape := ⟨2, ![256, 11008]⟩
abbrev S8x11008 : Shape := ⟨2, ![8, 11008]⟩
abbrev S256x128 : Shape := ⟨2, ![256, 128]⟩
abbrev S8x32x128 : Shape := ⟨3, ![8, 32, 128]⟩
abbrev S8x128 : Shape := ⟨2, ![8, 128]⟩
abbrev S8x128x1 : Shape := ⟨3, ![8, 128, 1]⟩
abbrev S8x1x128 : Shape := ⟨3, ![8, 1, 128]⟩
abbrev S4096x16384 : Shape := ⟨2, ![4096, 16384]⟩
abbrev S128x256 : Shape := ⟨2, ![128, 256]⟩
abbrev S4096x11008 : Shape := ⟨2, ![4096, 11008]⟩
abbrev S512x1024 : Shape := ⟨2, ![512, 1024]⟩
abbrev S1024x5504 : Shape := ⟨2, ![1024, 5504]⟩
abbrev S512x5504 : Shape := ⟨2, ![512, 5504]⟩
abbrev S512x344 : Shape := ⟨2, ![512, 344]⟩
abbrev S2x256x344 : Shape := ⟨3, ![2, 256, 344]⟩

abbrev nBuf : Space → Nat
  | .hbm => 14
  | .vmem => 20
  | .smem => 0
  | _ => 0

abbrev bufTy : (tb : Table) → Fin (tcTables nBuf tb) → BufTy
  | .hbm, ⟨0, _⟩ => ⟨S2x8192x4096, .i8⟩
  | .hbm, ⟨1, _⟩ => ⟨S2x256x128, .f32⟩
  | .hbm, ⟨2, _⟩ => ⟨S2x8192x11008, .bf16⟩
  | .hbm, ⟨3, _⟩ => ⟨S16384x4096, .i8⟩
  | .hbm, ⟨4, _⟩ => ⟨S16384x11008, .bf16⟩
  | .hbm, ⟨5, _⟩ => ⟨S512x128, .f32⟩
  | .hbm, ⟨6, _⟩ => ⟨S16384x11008, .i8⟩
  | .hbm, ⟨7, _⟩ => ⟨S512x11008, .f32⟩
  | .hbm, ⟨8, _⟩ => ⟨S16384x11008, .bf16⟩
  | .hbm, ⟨9, _⟩ => ⟨S4096x16384, .bf16⟩
  | .hbm, ⟨10, _⟩ => ⟨S4096x11008, .f32⟩
  | .hbm, ⟨11, _⟩ => ⟨S2x8192x11008, .i8⟩
  | .hbm, ⟨12, _⟩ => ⟨S512x344, .f32⟩
  | .hbm, ⟨13, _⟩ => ⟨S2x256x344, .f32⟩
  | .local _ .vmem, ⟨0, _⟩ => ⟨S256x11008, .bf16⟩
  | .local _ .vmem, ⟨1, _⟩ => ⟨S256x11008, .bf16⟩
  | .local _ .vmem, ⟨2, _⟩ => ⟨S256x11008, .i8⟩
  | .local _ .vmem, ⟨3, _⟩ => ⟨S256x11008, .i8⟩
  | .local _ .vmem, ⟨4, _⟩ => ⟨S8x11008, .f32⟩
  | .local _ .vmem, ⟨5, _⟩ => ⟨S8x11008, .f32⟩
  | .local _ .vmem, ⟨6, _⟩ => ⟨S256x11008, .bf16⟩
  | .local _ .vmem, ⟨7, _⟩ => ⟨S256x11008, .bf16⟩
  | .local _ .vmem, ⟨8, _⟩ => ⟨S256x128, .i8⟩
  | .local _ .vmem, ⟨9, _⟩ => ⟨S256x128, .i8⟩
  | .local _ .vmem, ⟨10, _⟩ => ⟨S8x128, .f32⟩
  | .local _ .vmem, ⟨11, _⟩ => ⟨S8x128, .f32⟩
  | .local _ .vmem, ⟨12, _⟩ => ⟨S128x256, .bf16⟩
  | .local _ .vmem, ⟨13, _⟩ => ⟨S128x256, .bf16⟩
  | .local _ .vmem, ⟨14, _⟩ => ⟨S512x1024, .bf16⟩
  | .local _ .vmem, ⟨15, _⟩ => ⟨S512x1024, .bf16⟩
  | .local _ .vmem, ⟨16, _⟩ => ⟨S1024x5504, .bf16⟩
  | .local _ .vmem, ⟨17, _⟩ => ⟨S1024x5504, .bf16⟩
  | .local _ .vmem, ⟨18, _⟩ => ⟨S512x5504, .f32⟩
  | .local _ .vmem, ⟨19, _⟩ => ⟨S512x5504, .f32⟩
  | _, _ => ⟨S2x8192x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c86_i32 : BitVec 32 := 86#32
  let v0 : BitVec 32 := Scalar.addi c0_i32 c86_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c128_i32 : BitVec 32 := 128#32
  let v3 : BitVec 32 := Scalar.muli v2 c128_i32
  v3
def k0_off1 (k0_t1 : Fin k0_t1_loop.trips) : Fin 2 → Nat :=
  let c0 : Index := 0#32
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c128_i32 : BitVec 32 := 128#32
  let v3 : BitVec 32 := Scalar.muli v2 c128_i32
  let v4 : BitVec 32 := v3
  let v5 : Index := Scalar.indexCast v4
  ![0, v5.toNat]
def k0_off2 (k0_t1 : Fin k0_t1_loop.trips) : Fin 2 → Nat :=
  let c0_15 : Index := 0#32
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c128_i32 : BitVec 32 := 128#32
  let v3 : BitVec 32 := Scalar.muli v2 c128_i32
  let v4 : BitVec 32 := v3
  let v63 : Index := Scalar.indexCast v4
  ![0, v63.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x11008 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x11008 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x11008 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![64, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x128 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S128x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨3, ![8, 2, 16], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x5504 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x5504 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== ReferenceIdeal.lean ====
abbrev S2x8192x4096 : Shape := ⟨3, ![2, 8192, 4096]⟩
abbrev S2x256x128 : Shape := ⟨3, ![2, 256, 128]⟩
abbrev S2x8192x11008 : Shape := ⟨3, ![2, 8192, 11008]⟩
abbrev S4096x11008 : Shape := ⟨2, ![4096, 11008]⟩
abbrev S2x256x344 : Shape := ⟨3, ![2, 256, 344]⟩
abbrev S2x256x32x11008 : Shape := ⟨4, ![2, 256, 32, 11008]⟩
abbrev S2x256x11008 : Shape := ⟨3, ![2, 256, 11008]⟩
abbrev S2x256x344x32 : Shape := ⟨4, ![2, 256, 344, 32]⟩
abbrev S2x256x344x1 : Shape := ⟨4, ![2, 256, 344, 1]⟩
abbrev S2x256x1x11008 : Shape := ⟨4, ![2, 256, 1, 11008]⟩
abbrev S2x256x128x1 : Shape := ⟨4, ![2, 256, 128, 1]⟩
abbrev S2x256x128x32 : Shape := ⟨4, ![2, 256, 128, 32]⟩
abbrev S2x256x4096 : Shape := ⟨3, ![2, 256, 4096]⟩
abbrev S2x256x32x4096 : Shape := ⟨4, ![2, 256, 32, 4096]⟩
abbrev S2x256x1x4096 : Shape := ⟨4, ![2, 256, 1, 4096]⟩
abbrev S16384x4096 : Shape := ⟨2, ![16384, 4096]⟩
abbrev S16384x11008 : Shape := ⟨2, ![16384, 11008]⟩

abbrev nBuf : Space → Nat
  | .hbm => 6
  | .vmem => 6
  | .smem => 0
  | _ => 0

abbrev bufTy : (tb : Table) → Fin (tcTables nBuf tb) → BufTy
  | .hbm, ⟨0, _⟩ => ⟨S2x8192x4096, .i8⟩
  | .hbm, ⟨1, _⟩ => ⟨S2x256x128, .f32⟩
  | .hbm, ⟨2, _⟩ => ⟨S2x8192x11008, .bf16⟩
  | .hbm, ⟨3, _⟩ => ⟨S4096x11008, .f32⟩
  | .hbm, ⟨4, _⟩ => ⟨S2x8192x11008, .i8⟩
  | .hbm, ⟨5, _⟩ => ⟨S2x256x344, .f32⟩
  | .local _ .vmem, ⟨0, _⟩ => ⟨S2x8192x4096, .i8⟩
  | .local _ .vmem, ⟨1, _⟩ => ⟨S2x256x128, .f32⟩
  | .local _ .vmem, ⟨2, _⟩ => ⟨S2x8192x11008, .bf16⟩
  | .local _ .vmem, ⟨3, _⟩ => ⟨S4096x11008, .f32⟩
  | .local _ .vmem, ⟨4, _⟩ => ⟨S2x8192x11008, .i8⟩
  | .local _ .vmem, ⟨5, _⟩ => ⟨S2x256x344, .f32⟩
  | _, _ => ⟨S2x8192x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x8192x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8192x11008 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x11008 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192x11008 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x344 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRun.lean ====
/- The kernel's run with its three results: each is what the last host operations leave (the frame's own run, with the
   results kept in what is read off the final state). -/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every run ends with each result at the last boundary's contents and the arguments as launched. -/
theorem run : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_v6) = W5 m ρ c (Proc.devRef .tc main_v6)
      ∧ r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v5 (by decide)), h c _ (mem_uc main_v6 (by decide)), h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Value
end
-- ==== Proof.Spec.lean ====
/- The quantiser and the dequantiser, element by element: the common language in which both programs' results are read. -/
module

public import Idealize.ShloMosaic.Lib.Pointwise

@[expose] public section

set_option maxRecDepth 16384

noncomputable section

namespace Cert.Spec

open Idealize.ShloMosaic

/-- What a maximum starts from: the pattern of minus infinity. -/
abbrev NEG : EReal := Ideal.ofBits .f32 0xFF800000#32

/-- The largest magnitude of one column of 32 elements. -/
def colMax (f : Fin 32 → EReal) : EReal :=
  Finset.univ.fold max NEG fun p : Fin 32 => (FloatOps.absf (F := Ideal) (φ := .f32) (f p) : EReal)

/-- The largest magnitude of a 32 x 32 block: rows first, then columns. -/
def blockMax (f : Fin 32 → Fin 32 → EReal) : EReal :=
  Finset.univ.fold max NEG fun q : Fin 32 => colMax fun p => f p q

/-- The scale a block of largest magnitude `a` is given. -/
def scaleOf (a : EReal) : EReal := if a = 0 then 1 else Ideal.div a (Ideal.ofBits .f32 0x42FE0000#32)

/-- The code of the value `v` under the scale `s`. -/
def codeOf (v s : EReal) : BitVec 8 :=
  FloatOps.fptosi (F := Ideal) (φ := .f32) 8 (min (((127#32).toInt : ℝ) : EReal) (max (((4294967169#32).toInt : ℝ) : EReal)
    (Ideal.liftRound Ideal.roundHalfEven (Ideal.div v s))))

/-- The value a code stands for under the scale `s`. -/
def deq (q : BitVec 8) (s : EReal) : EReal := (FloatOps.sitofp (F := Ideal) .bf16 q : EReal) * s

theorem neg_le_colMax (f : Fin 32 → EReal) : NEG ≤ colMax f := Finset.le_fold_max NEG |>.2 (.inl le_rfl)

/-- A block's maximum is the least bound of its columns' maxima. -/
theorem blockMax_le (f : Fin 32 → Fin 32 → EReal) (c : EReal) : blockMax f ≤ c ↔ ∀ q : Fin 32, colMax (fun p => f p q) ≤ c := by
  unfold blockMax
  rw [Finset.fold_max_le]
  exact ⟨fun h q => h.2 q (Finset.mem_univ q), fun h => ⟨(neg_le_colMax _).trans (h 0), fun q _ => h q⟩⟩

end Cert.Spec
end
-- ==== Proof.Quant.lean ====
/- One column step of the quantiser: what it stores, read at an index. -/
module

public import proofs.«01_k».proof.Proof.Gen.KernelIdeal.Skeleton
public import proofs.«01_k».proof.Proof.Spec

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec

/-- Lane `l` of `a` bounds exactly the `n` lanes of `A` that start at `l`, going round at 128. -/
def Spread (a : FVec Ideal S8x128 .f32) (n : ℕ) (A : Fin 8 → Fin 128 → EReal) : Prop :=
  ∀ (r : Fin 8) (l : Fin 128) (c : EReal), a (ix2 r l) ≤ c ↔ ∀ q, q < n → A r ⟨(l.val + q) % 128, Nat.mod_lt _ (by decide)⟩ ≤ c

/-- A maximum with the vector turned by `n` lanes doubles what a lane bounds. -/
theorem Spread.step {a b : FVec Ideal S8x128 .f32} {n : ℕ} {A : Fin 8 → Fin 128 → EReal} (h : Spread a n A)
    (hb : ∀ (r : Fin 8) (l : Fin 128), b (ix2 r l) = max (a (ix2 r l)) (a (ix2 r ⟨(l.val + n) % 128, Nat.mod_lt _ (by decide)⟩))) :
    Spread b (n + n) A := by
  intro r l c
  rw [hb, max_le_iff, h, h]
  constructor
  · rintro ⟨h1, h2⟩ q hq
    by_cases hn : q < n
    · exact h1 q hn
    · have := h2 (q - n) (by omega)
      have e : ((l.val + n) % 128 + (q - n)) % 128 = (l.val + q) % 128 := by omega
      simpa only [e] using this
  · intro h'
    refine ⟨fun q hq => h' q (by omega), fun q hq => ?_⟩
    have := h' (n + q) (by omega)
    have e : (l.val + (n + q)) % 128 = ((l.val + n) % 128 + q) % 128 := by omega
    simpa only [e] using this

theorem rot1 (a : FVec Ideal S8x128 .f32) (r : Fin 8) (l : Fin 128) :
    maximumf a (dynamicRotate 1 127#32 none a rotates_S8x128_d1) (ix2 r l)
      = max (a (ix2 r l)) (a (ix2 r ⟨(l.val + 1) % 128, Nat.mod_lt _ (by decide)⟩)) := by
  pointwise
  have e : (l.val + 128 - 127) % 128 = (l.val + 1) % 128 := by omega
  simp only [e]
theorem rot2 (a : FVec Ideal S8x128 .f32) (r : Fin 8) (l : Fin 128) :
    maximumf a (dynamicRotate 1 126#32 none a rotates_S8x128_d1) (ix2 r l)
      = max (a (ix2 r l)) (a (ix2 r ⟨(l.val + 2) % 128, Nat.mod_lt _ (by decide)⟩)) := by
  pointwise
  have e : (l.val + 128 - 126) % 128 = (l.val + 2) % 128 := by omega
  simp only [e]
theorem rot4 (a : FVec Ideal S8x128 .f32) (r : Fin 8) (l : Fin 128) :
    maximumf a (dynamicRotate 1 124#32 none a rotates_S8x128_d1) (ix2 r l)
      = max (a (ix2 r l)) (a (ix2 r ⟨(l.val + 4) % 128, Nat.mod_lt _ (by decide)⟩)) := by
  pointwise
  have e : (l.val + 128 - 124) % 128 = (l.val + 4) % 128 := by omega
  simp only [e]
theorem rot8 (a : FVec Ideal S8x128 .f32) (r : Fin 8) (l : Fin 128) :
    maximumf a (dynamicRotate 1 120#32 none a rotates_S8x128_d1) (ix2 r l)
      = max (a (ix2 r l)) (a (ix2 r ⟨(l.val + 8) % 128, Nat.mod_lt _ (by decide)⟩)) := by
  pointwise
  have e : (l.val + 128 - 120) % 128 = (l.val + 8) % 128 := by omega
  simp only [e]
theorem rot16 (a : FVec Ideal S8x128 .f32) (r : Fin 8) (l : Fin 128) :
    maximumf a (dynamicRotate 1 112#32 none a rotates_S8x128_d1) (ix2 r l)
      = max (a (ix2 r l)) (a (ix2 r ⟨(l.val + 16) % 128, Nat.mod_lt _ (by decide)⟩)) := by
  pointwise
  have e : (l.val + 128 - 112) % 128 = (l.val + 16) % 128 := by omega
  simp only [e]

/-- The maximum over the 32 rows of a row group. -/
theorem rows_at (x : FVec Ideal S256x128 .bf16) (r : Fin 8) (l : Fin 128) :
    multiReduction .maximumf [1] S8x128 (absf (shapeCast S8x32x128 (k0_pay5 (F := Ideal) x) shapeCasts_S256x128_S8x32x128))
        0xFF800000#32 reduces_S8x32x128_S8x128 (.inl rfl) rfl (ix2 r l)
      = colMax fun p => x (ix2 ⟨r.val * 32 + p.val, by omega⟩ l) := by
  unfold colMax
  pointwise [k0_pay5]

/-- After the five turns a lane bounds the 32 lanes that start at it. -/
theorem spread (x : FVec Ideal S256x128 .bf16) :
    Spread (k0_pay6 (F := Ideal) x) 32 fun r l => colMax fun p => x (ix2 ⟨r.val * 32 + p.val, by omega⟩ l) := by
  unfold k0_pay6
  refine Spread.step (n := 16) (Spread.step (n := 8) (Spread.step (n := 4) (Spread.step (n := 2) (Spread.step (n := 1) ?_
    (rot1 _)) (rot2 _)) (rot4 _)) (rot8 _)) (rot16 _)
  intro r l c
  rw [rows_at]
  constructor
  · intro h q hq
    obtain rfl : q = 0 := by omega
    have e : (l.val + 0) % 128 = l.val := by omega
    simpa only [e] using h
  · intro h
    have h' := h 0 (by omega)
    have e : (l.val + 0) % 128 = l.val := by omega
    simpa only [e] using h'

/-- At a group's first lane: the maximum of the 32 x 32 block. -/
theorem pay6_first (x : FVec Ideal S256x128 .bf16) (r : Fin 8) (g : Fin 4) (l : Fin 128) (hl : l.val = g.val * 32) :
    k0_pay6 (F := Ideal) x (ix2 r l)
      = blockMax fun p q => x (ix2 ⟨r.val * 32 + p.val, by omega⟩ ⟨g.val * 32 + q.val, by omega⟩) := by
  refine eq_of_forall_ge_iff fun c => ?_
  rw [spread, blockMax_le]
  constructor
  · intro h q
    have := h q.val q.isLt
    have e : (l.val + q.val) % 128 = g.val * 32 + q.val := by omega
    simpa only [e] using this
  · intro h q hq
    have := h ⟨q, hq⟩
    have e : (l.val + q) % 128 = g.val * 32 + q := by omega
    simpa only [e] using this

theorem pay7_at (r : Fin 8) (l : Fin 128) : k0_pay7 (ix2 r l) = BitVec.ofNat 32 (l.val / 32) := by
  pointwise [k0_pay7]
  revert l; decide +kernel

theorem pay8_at (r : Fin 8) (l : Fin 128) : k0_pay8 (ix2 r l) = 0#1 := by
  pointwise [k0_pay8]
  revert l; decide +kernel

/-- The word that names the lane to gather from. -/
theorem gather_word : ∀ l : Fin 128,
    (Scalar.select (IntOp.cmpi .slt (IntOp.muli (BitVec.ofNat 32 (l.val / 32)) 32#32) 0#32)
      (IntOp.addi (IntOp.muli (BitVec.ofNat 32 (l.val / 32)) 32#32) 128#32)
      (IntOp.muli (BitVec.ofNat 32 (l.val / 32)) 32#32)).toNat % 128
      = l.val / 32 * 32 := by decide +kernel

/-- The stored scale. -/
theorem pay1_at (a : FVec Ideal S8x128 .f32) (r : Fin 8) (l : Fin 128) :
    k0_pay1 (F := Ideal) a k0_pay7 k0_pay8 (ix2 r l) = scaleOf (a (ix2 r ⟨l.val / 32 * 32, by omega⟩)) := by
  unfold scaleOf
  pointwise [k0_pay1, pay7_at, pay8_at]
  simp only [gather_word]

/-- The scale of the element in row `r`, lane `l` of the column block `x`. -/
def colScale (x : FVec Ideal S256x128 .bf16) (r : Fin 8) (l : Fin 128) : EReal :=
  scaleOf (blockMax fun p q => x (ix2 ⟨r.val * 32 + p.val, by omega⟩ ⟨l.val / 32 * 32 + q.val, by omega⟩))

theorem scale_at (x : FVec Ideal S256x128 .bf16) (r : Fin 8) (l : Fin 128) :
    k0_pay1 (F := Ideal) (k0_pay6 x) k0_pay7 k0_pay8 (ix2 r l) = colScale x r l := by
  rw [pay1_at, pay6_first x r ⟨l.val / 32, by omega⟩ _ rfl]; rfl

theorem codes_at (x : FVec Ideal S256x128 .bf16) (r : Fin 256) (l : Fin 128) :
    k0_pay3 (F := Ideal) (k0_pay5 x) (k0_pay6 x) k0_pay7 k0_pay8 (ix2 r l)
      = codeOf (x (ix2 r l)) (colScale x ⟨r.val / 32, by omega⟩ l) := by
  unfold codeOf
  pointwise [k0_pay3, k0_pay2, k0_pay5, scale_at]

theorem dyd_at (x : FVec Ideal S256x128 .bf16) (r : Fin 256) (l : Fin 128) :
    k0_pay4 (F := Ideal) (k0_pay5 x) (k0_pay6 x) k0_pay7 k0_pay8 (ix2 r l)
      = deq (codeOf (x (ix2 r l)) (colScale x ⟨r.val / 32, by omega⟩ l)) (colScale x ⟨r.val / 32, by omega⟩ l) := by
  unfold deq
  pointwise [k0_pay4, k0_pay2, scale_at, codes_at]

end Cert.KernelIdeal.Value
end
-- ==== Proof.Block.lean ====
/- What the quantiser leaves in its three output blocks for one block of 256 rows, read at an index. -/
module

public import proofs.«01_k».proof.Proof.Gen.KernelIdeal.Frame
public import proofs.«01_k».proof.Proof.Quant
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec

theorem trips_eq : k0_t1_loop.trips = 86 := by decide

theorem trip_lt (k : Fin k0_t1_loop.trips) : k.val < 86 := lt_of_lt_of_eq k.isLt trips_eq

/-- Column step `k`'s columns of the block. -/
def colBlock (x : FVec Ideal S256x11008 .bf16) (k : Fin k0_t1_loop.trips) : FVec Ideal S256x128 .bf16 :=
  fun y => x (ix2 (y 0) ⟨128 * k.val + (y 1).val, by
    have := trip_lt k; have h : (y 1).val < 128 := (y 1).isLt; omega⟩)

/-- The scale of the element in row group `r`, column `l` of a block of 256 rows. -/
def blkScale (x : FVec Ideal S256x11008 .bf16) (r : Fin 8) (l : Fin 11008) : EReal :=
  scaleOf (blockMax fun p q => x (ix2 ⟨r.val * 32 + p.val, by omega⟩ ⟨l.val / 32 * 32 + q.val, by omega⟩))

/-- Its code. -/
def blkCode (x : FVec Ideal S256x11008 .bf16) (r : Fin 256) (l : Fin 11008) : BitVec 8 :=
  codeOf (x (ix2 r l)) (blkScale x ⟨r.val / 32, by omega⟩ l)

theorem colScale_eq (x : FVec Ideal S256x11008 .bf16) (k : Fin k0_t1_loop.trips) (r : Fin 8) (l : Fin 128) (l' : Fin 11008)
    (h : l'.val = 128 * k.val + l.val) : colScale (colBlock x k) r l = blkScale x r l' := by
  unfold colScale blkScale colBlock
  refine congrArg scaleOf (congrArg blockMax (funext fun p => funext fun q => congrArg x ?_))
  have e : 128 * k.val + (l.val / 32 * 32 + q.val) = l'.val / 32 * 32 + q.val := by omega
  exact (ix2_inj ..).2 ⟨rfl, Fin.ext e⟩

section Trip

variable (𝒱 : Variants) (c : Dev nD) (bd : Option 𝒱.V) (i : grid0.Coords)
  (arg1 : Memref sig .tc .vmem S256x11008 .bf16) (harg1 : arg1.IsWhole) (arg2 : Memref sig .tc .vmem S256x11008 .i8) (harg2 : arg2.IsWhole)
  (arg3 : Memref sig .tc .vmem S8x11008 .f32) (harg3 : arg3.IsWhole) (arg4 : Memref sig .tc .vmem S256x11008 .bf16) (harg4 : arg4.IsWhole)
  (x : Vec Ideal S256x11008 .bf16) (k : Fin k0_t1_loop.trips)

/-- The step's load reads the step's columns. -/
theorem load_eq : View.readAt (Elt Ideal) arg1.view (Rect.unit (s := S256x11008) (k0_off1 k) S256x128.size (k0_off1_inb k)).toLoadRect (harg1.unread x)
    = colBlock x k := by
  rw [View.readAt_eq_ld, harg1.read_unread]
  funext y
  refine View.ld_unit_apply_of x _ _ _ y _ fun a => ?_
  refine Eq.trans ?_ (congrArg (· + (y a).val) (congrFun (k0_off1_eq k) a).symm)
  fin_cases a
  · show (y 0).val = 0 + (y 0).val; omega
  · rfl

theorem loads_eq : trip_k0_t1.sl.r (F := Ideal) arg1 (harg1.unread x) k = k0_pay5 (colBlock x k)
    ∧ trip_k0_t1.sl.r_1 (F := Ideal) arg1 (harg1.unread x) k = k0_pay6 (colBlock x k) := by
  unfold trip_k0_t1.sl.r trip_k0_t1.sl.r_1
  rw [load_eq arg1 harg1 x k]
  exact ⟨rfl, rfl⟩

theorem trip_codes (r : Fin 256) (l : Fin 11008) :
    View.AllAt (tripL_k0_t1 (F := Ideal) 𝒱 c bd i arg1 harg1 arg2 harg2 arg3 harg3 arg4 harg4 (harg1.unread x) k).1 (ix2 r l) (blkCode x r l) := by
  unfold tripL_k0_t1 trip_k0_t1
  dsimp only
  rw [(loads_eq arg1 harg1 x k).1, (loads_eq arg1 harg1 x k).2]
  refine View.allAt_cons_unit _ _ _ _ _ (fun z hz => ?_) (View.allAt_nil _ _)
  rw [k0_off1_eq] at hz
  have h0 : r.val = 0 + (z 0).val := hz 0
  have h1 : l.val = 128 * k.val + (z 1).val := hz 1
  have hr : r = z 0 := Fin.ext (by omega)
  have hl : (⟨128 * k.val + (z 1).val, by omega⟩ : Fin 11008) = l := Fin.ext h1.symm
  refine (congrArg _ (eq_ix2 z)).trans ((codes_at (colBlock x k) (z 0) (z 1)).trans ?_)
  rw [colScale_eq x k _ (z 1) l h1]
  subst hr
  exact congrArg (fun u => codeOf (x (ix2 (z 0) u)) _) hl

theorem trip_scale (r : Fin 8) (l : Fin 11008) :
    View.AllAt (tripL_k0_t1 (F := Ideal) 𝒱 c bd i arg1 harg1 arg2 harg2 arg3 harg3 arg4 harg4 (harg1.unread x) k).2.1 (ix2 r l) (blkScale x r l) := by
  unfold tripL_k0_t1 trip_k0_t1
  dsimp only
  rw [(loads_eq arg1 harg1 x k).2]
  refine View.allAt_cons_unit _ _ _ _ _ (fun z hz => ?_) (View.allAt_nil _ _)
  rw [k0_off2_eq] at hz
  have h0 : r.val = 0 + (z 0).val := hz 0
  have h1 : l.val = 128 * k.val + (z 1).val := hz 1
  have hr : r = z 0 := Fin.ext (by omega)
  refine (congrArg _ (eq_ix2 z)).trans ((scale_at (colBlock x k) (z 0) (z 1)).trans ?_)
  subst hr
  exact colScale_eq x k (z 0) (z 1) l h1

theorem trip_dyd (r : Fin 256) (l : Fin 11008) :
    View.AllAt (tripL_k0_t1 (F := Ideal) 𝒱 c bd i arg1 harg1 arg2 harg2 arg3 harg3 arg4 harg4 (harg1.unread x) k).2.2 (ix2 r l)
      (deq (blkCode x r l) (blkScale x ⟨r.val / 32, by omega⟩ l)) := by
  unfold tripL_k0_t1 trip_k0_t1
  dsimp only
  rw [(loads_eq arg1 harg1 x k).1, (loads_eq arg1 harg1 x k).2]
  refine View.allAt_cons_unit _ _ _ _ _ (fun z hz => ?_) (View.allAt_nil _ _)
  rw [k0_off1_eq] at hz
  have h0 : r.val = 0 + (z 0).val := hz 0
  have h1 : l.val = 128 * k.val + (z 1).val := hz 1
  have hr : r = z 0 := Fin.ext (by omega)
  have hl : (⟨128 * k.val + (z 1).val, by omega⟩ : Fin 11008) = l := Fin.ext h1.symm
  refine (congrArg _ (eq_ix2 z)).trans ((dyd_at (colBlock x k) (z 0) (z 1)).trans ?_)
  rw [colScale_eq x k _ (z 1) l h1]
  subst hr
  exact congrArg (fun u => deq (codeOf (x (ix2 (z 0) u)) _) _) hl

end Trip

/-- Two lists of pieces, each right at `y`, are right together. -/
theorem allAt_append {S : Shape} {e : EltTy} {y : S.Idx} {v : Elt Ideal e} {L L' : List (View.Piece (Elt Ideal) S e)}
    (h : View.AllAt L y v) (h' : View.AllAt L' y v) : View.AllAt (L ++ L') y v := fun p hp =>
  (List.mem_append.1 hp).elim (h p) (h' p)

section Run

variable (c : Dev nD) (i : grid0.Coords)
  (arg1 : Memref sig .tc .vmem S256x11008 .bf16) (harg1 : arg1.IsWhole) (arg2 : Memref sig .tc .vmem S256x11008 .i8) (harg2 : arg2.IsWhole)
  (arg3 : Memref sig .tc .vmem S8x11008 .f32) (harg3 : arg3.IsWhole) (arg4 : Memref sig .tc .vmem S256x11008 .bf16) (harg4 : arg4.IsWhole)
  (x : Vec Ideal S256x11008 .bf16)

/-- All the pieces of the steps before `n` hold the quantiser's values. -/
theorem steps_at (𝒱 : Variants) (bd : Option 𝒱.V) : ∀ n : ℕ, n ≤ k0_t1_loop.trips →
    (∀ r l, View.AllAt (pb_k0_t1 (F := Ideal) 𝒱 c bd i arg1 harg1 arg2 harg2 arg3 harg3 arg4 harg4 (harg1.unread x) n).1 (ix2 r l) (blkCode x r l))
    ∧ (∀ r l, View.AllAt (pb_k0_t1 (F := Ideal) 𝒱 c bd i arg1 harg1 arg2 harg2 arg3 harg3 arg4 harg4 (harg1.unread x) n).2.1 (ix2 r l) (blkScale x r l))
    ∧ (∀ r l, View.AllAt (pb_k0_t1 (F := Ideal) 𝒱 c bd i arg1 harg1 arg2 harg2 arg3 harg3 arg4 harg4 (harg1.unread x) n).2.2 (ix2 r l)
        (deq (blkCode x r l) (blkScale x ⟨r.val / 32, by omega⟩ l)))
  | 0, _ => ⟨fun r l => View.allAt_nil _ _, fun r l => View.allAt_nil _ _, fun r l => View.allAt_nil _ _⟩
  | n + 1, hn => by
    obtain ⟨h1, h2, h3⟩ := steps_at 𝒱 bd n (by omega)
    rw [pb_k0_t1_succ (F := Ideal) 𝒱 c bd i arg1 harg1 arg2 harg2 arg3 harg3 arg4 harg4 (harg1.unread x) ⟨n, hn⟩]
    exact ⟨fun r l => allAt_append (trip_codes 𝒱 c bd i arg1 harg1 arg2 harg2 arg3 harg3 arg4 harg4 x ⟨n, hn⟩ r l) (h1 r l),
      fun r l => allAt_append (trip_scale 𝒱 c bd i arg1 harg1 arg2 harg2 arg3 harg3 arg4 harg4 x ⟨n, hn⟩ r l) (h2 r l),
      fun r l => allAt_append (trip_dyd 𝒱 c bd i arg1 harg1 arg2 harg2 arg3 harg3 arg4 harg4 x ⟨n, hn⟩ r l) (h3 r l)⟩

theorem out_codes (r : Fin 256) (l : Fin 11008) :
    out0_A_1 (F := Ideal) c i arg1 harg1 arg2 harg2 arg3 harg3 arg4 harg4 x (ix2 r l) = blkCode x r l := by
  unfold out0_A_1
  rw [View.read_writes_junk_eq_canon]
  refine View.canon_eq_of_allAt _ _ _ (cover0_A_1 c i arg1 harg1 arg2 harg2 arg3 harg3 arg4 harg4 x _) ?_
  unfold kernelRun0_A
  exact (steps_at c i arg1 harg1 arg2 harg2 arg3 harg3 arg4 harg4 x Variants.none none k0_t1_loop.trips le_rfl).1 r l

theorem out_scale (r : Fin 8) (l : Fin 11008) :
    out0_A_2 (F := Ideal) c i arg1 harg1 arg2 harg2 arg3 harg3 arg4 harg4 x (ix2 r l) = blkScale x r l := by
  unfold out0_A_2
  rw [View.read_writes_junk_eq_canon]
  refine View.canon_eq_of_allAt _ _ _ (cover0_A_2 c i arg1 harg1 arg2 harg2 arg3 harg3 arg4 harg4 x _) ?_
  unfold kernelRun0_A
  exact (steps_at c i arg1 harg1 arg2 harg2 arg3 harg3 arg4 harg4 x Variants.none none k0_t1_loop.trips le_rfl).2.1 r l

theorem out_dyd (r : Fin 256) (l : Fin 11008) :
    out0_A_3 (F := Ideal) c i arg1 harg1 arg2 harg2 arg3 harg3 arg4 harg4 x (ix2 r l)
      = deq (blkCode x r l) (blkScale x ⟨r.val / 32, by omega⟩ l) := by
  unfold out0_A_3
  rw [View.read_writes_junk_eq_canon]
  refine View.canon_eq_of_allAt _ _ _ (cover0_A_3 c i arg1 harg1 arg2 harg2 arg3 harg3 arg4 harg4 x _) ?_
  unfold kernelRun0_A
  exact (steps_at c i arg1 harg1 arg2 harg2 arg3 harg3 arg4 harg4 x Variants.none none k0_t1_loop.trips le_rfl).2.2 r l

end Run

end Cert.KernelIdeal.Value
end
-- ==== Proof.QuantArray.lean ====
/- The three arrays the quantiser leaves, as functions of the array it reads. -/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-- The scale of row group `R`, column `l` of the whole array. -/
def dyScale (D : FVec Ideal S16384x11008 .bf16) (R : Fin 512) (l : Fin 11008) : EReal :=
  scaleOf (blockMax fun p q => D (ix2 ⟨R.val * 32 + p.val, by omega⟩ ⟨l.val / 32 * 32 + q.val, by omega⟩))

/-- The code of its element in row `T`, column `l`. -/
def dyCode (D : FVec Ideal S16384x11008 .bf16) (T : Fin 16384) (l : Fin 11008) : BitVec 8 :=
  codeOf (D (ix2 T l)) (dyScale D ⟨T.val / 32, by omega⟩ l)

/-- The value that code stands for. -/
def dyDeq (D : FVec Ideal S16384x11008 .bf16) (T : Fin 16384) (l : Fin 11008) : EReal :=
  deq (dyCode D T l) (dyScale D ⟨T.val / 32, by omega⟩ l)

def dyScales (D : FVec Ideal S16384x11008 .bf16) : FVec Ideal S512x11008 .f32 := fun y => dyScale D (y 0) (y 1)
def dyCodes (D : FVec Ideal S16384x11008 .bf16) : IVec S16384x11008 8 := fun y => dyCode D (y 0) (y 1)
def dyDeqs (D : FVec Ideal S16384x11008 .bf16) : FVec Ideal S16384x11008 .bf16 := fun y => dyDeq D (y 0) (y 1)

theorem idx0 : ∀ t : Fin cfg0.N, win0_0.index t = ![t.val, 0] ∧ win0_1.index t = ![t.val, 0] ∧ win0_2.index t = ![t.val, 0]
    ∧ win0_3.index t = ![t.val, 0] ∧ t.val < 64 :=
  (by decide +kernel : ∀ t : Fin grid0.N, _)

theorem lt0 (t : Fin cfg0.N) : t.val < 64 := (idx0 t).2.2.2.2

/-- Row block `t` as the quantiser reads it. -/
theorem in_at (c : Dev nD) (t : Fin cfg0.N) (r : Fin 256) (l : Fin 11008) :
    (show FVec Ideal S256x11008 .bf16 from iblk0 V c 0 t) (ix2 r l)
      = (show FVec Ideal S16384x11008 .bf16 from V c main_v1) (ix2 ⟨t.val * 256 + r.val, by have := lt0 t; omega⟩ l) := by
  blk_point [iblk0, idx0 t]

theorem scale_in (c : Dev nD) (t : Fin cfg0.N) (r : Fin 8) (l : Fin 11008) :
    blkScale (iblk0 V c 0 t) r l = dyScale (V c main_v1) ⟨t.val * 8 + r.val, by have := lt0 t; omega⟩ l := by
  have ht := lt0 t
  unfold blkScale dyScale
  refine congrArg scaleOf (congrArg blockMax (funext fun p => funext fun q => (in_at V c t _ _).trans (congrArg _ ?_)))
  exact (ix2_inj ..).2 ⟨Fin.ext (show t.val * 256 + (r.val * 32 + p.val) = (t.val * 8 + r.val) * 32 + p.val by omega), rfl⟩

theorem code_in (c : Dev nD) (t : Fin cfg0.N) (r : Fin 256) (l : Fin 11008) :
    blkCode (iblk0 V c 0 t) r l = dyCode (V c main_v1) ⟨t.val * 256 + r.val, by have := lt0 t; omega⟩ l := by
  have ht := lt0 t
  unfold blkCode dyCode
  refine congr (congrArg codeOf (in_at V c t r l)) ((scale_in V c t _ l).trans ?_)
  exact congrArg (fun R => dyScale (V c main_v1) R l) (Fin.ext (show t.val * 8 + r.val / 32 = (t.val * 256 + r.val) / 32 by omega))

theorem deq_in (c : Dev nD) (t : Fin cfg0.N) (r : Fin 256) (l : Fin 11008) :
    deq (blkCode (iblk0 V c 0 t) r l) (blkScale (iblk0 V c 0 t) ⟨r.val / 32, by omega⟩ l)
      = dyDeq (V c main_v1) ⟨t.val * 256 + r.val, by have := lt0 t; omega⟩ l := by
  have ht := lt0 t
  unfold dyDeq
  refine congr (congrArg deq (code_in V c t r l)) ((scale_in V c t _ l).trans ?_)
  exact congrArg (fun R => dyScale (V c main_v1) R l) (Fin.ext (show t.val * 8 + r.val / 32 = (t.val * 256 + r.val) / 32 by omega))

theorem emb_1 (t : Fin cfg0.N) (y : S256x11008.Idx) :
    (((cfg0.win 1).blk t).view.emb y : S16384x11008.Idx) = ix2 ⟨t.val * 256 + (y 0).val, by have := lt0 t; have : (y 0).val < 256 := (y 0).isLt; omega⟩ (y 1) := by
  blk_ext [idx0 t]

theorem emb_2 (t : Fin cfg0.N) (y : S8x11008.Idx) :
    (((cfg0.win 2).blk t).view.emb y : S512x11008.Idx) = ix2 ⟨t.val * 8 + (y 0).val, by have := lt0 t; have : (y 0).val < 8 := (y 0).isLt; omega⟩ (y 1) := by
  blk_ext [idx0 t]

theorem emb_3 (t : Fin cfg0.N) (y : S256x11008.Idx) :
    (((cfg0.win 3).blk t).view.emb y : S16384x11008.Idx) = ix2 ⟨t.val * 256 + (y 0).val, by have := lt0 t; have : (y 0).val < 256 := (y 0).isLt; omega⟩ (y 1) := by
  blk_ext [idx0 t]

/-- The array of codes. -/
theorem codes_final (c : Dev nD) : (dat0 V c).arrAt 1 cfg0.N = dyCodes (V c main_v1) := by
  refine (dat0 V c).arrAt_eq_of_covers 1 _ (by decide +kernel) fun t _ y => ?_
  blk_simp
  rw [after0_1]
  unfold outsAt0
  dsimp only
  refine (congrArg _ (eq_ix2 y)).trans ((out_codes _ _ _ _ _ _ _ _ _ _ _ (y 0) (y 1)).trans ((code_in V c t (y 0) (y 1)).trans ?_))
  exact (congrArg (dyCodes (V c main_v1)) (emb_1 t y)).symm

/-- The array of scales. -/
theorem scales_final (c : Dev nD) : (dat0 V c).arrAt 2 cfg0.N = dyScales (V c main_v1) := by
  refine (dat0 V c).arrAt_eq_of_covers 2 _ (by decide +kernel) fun t _ y => ?_
  blk_simp
  rw [after0_2]
  unfold outsAt0
  dsimp only
  refine (congrArg _ (eq_ix2 y)).trans ((out_scale _ _ _ _ _ _ _ _ _ _ _ (y 0) (y 1)).trans ((scale_in V c t (y 0) (y 1)).trans ?_))
  exact (congrArg (dyScales (V c main_v1)) (emb_2 t y)).symm

/-- The array of dequantised values. -/
theorem deqs_final (c : Dev nD) : (dat0 V c).arrAt 3 cfg0.N = dyDeqs (V c main_v1) := by
  refine (dat0 V c).arrAt_eq_of_covers 3 _ (by decide +kernel) fun t _ y => ?_
  blk_simp
  rw [after0_3]
  unfold outsAt0
  dsimp only
  refine (congrArg _ (eq_ix2 y)).trans ((out_dyd _ _ _ _ _ _ _ _ _ _ _ (y 0) (y 1)).trans ((deq_in V c t (y 0) (y 1)).trans ?_))
  exact (congrArg (dyDeqs (V c main_v1)) (emb_3 t y)).symm

end Cert.KernelIdeal.Value
end
-- ==== Proof.XPrep.lean ====
/- The array the x preparation leaves, as a function of the codes and scales it reads. -/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-- Dequantised `x`, transposed. -/
def xtVal (X : IVec S16384x4096 8) (S : FVec Ideal S512x128 .f32) (j : Fin 4096) (T : Fin 16384) : EReal :=
  deq (X (ix2 T j)) (S (ix2 ⟨T.val / 32, by omega⟩ ⟨j.val / 32, by omega⟩))

def xtVals (X : IVec S16384x4096 8) (S : FVec Ideal S512x128 .f32) : FVec Ideal S4096x16384 .bf16 := fun y => xtVal X S (y 0) (y 1)

/-- The word that points lane `l` of column block `j` at its scale, as computed for the row of scales. -/
def scaleWord (j : Fin 32) (l : Fin 128) : BitVec 32 := BitVec.ofNat 32 (l.val / 32 + 4 * j.val)

theorem word_eq : ∀ (j : Fin 32) (l : Fin 128),  IntOp.addi
      (Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 l.val) 32#32) 0#32))
        (IntOp.subi (IntOp.divsi ArithUnit.vector (BitVec.ofNat 32 l.val) 32#32) 1#32)
        (IntOp.divsi ArithUnit.vector (BitVec.ofNat 32 l.val) 32#32))
      (Scalar.muli (4#32)
        (Scalar.select
          (Scalar.andi
            (Scalar.xori
              (Scalar.cmpi CmpIPredicate.slt
                (Scalar.remsi (BitVec.ofNat 32 j.val)
                  (Scalar.select (Scalar.cmpi CmpIPredicate.eq 32#32 0#32) 1#32 32#32))
                0#32)
              (Scalar.cmpi CmpIPredicate.slt (Scalar.select (Scalar.cmpi CmpIPredicate.eq 32#32 0#32) 1#32 32#32) 0#32))
            (Scalar.cmpi CmpIPredicate.ne
              (Scalar.remsi (BitVec.ofNat 32 j.val)
                (Scalar.select (Scalar.cmpi CmpIPredicate.eq 32#32 0#32) 1#32 32#32))
              0#32))
          (Scalar.addi
            (Scalar.remsi (BitVec.ofNat 32 j.val) (Scalar.select (Scalar.cmpi CmpIPredicate.eq 32#32 0#32) 1#32 32#32))
            (Scalar.select (Scalar.cmpi CmpIPredicate.eq 32#32 0#32) 1#32 32#32))
          (Scalar.remsi (BitVec.ofNat 32 j.val)
            (Scalar.select (Scalar.cmpi CmpIPredicate.eq 32#32 0#32) 1#32 32#32)))) = scaleWord j l := by decide +kernel

theorem pay3_at (i : grid1.Coords) (r : Fin 8) (l : Fin 128) :
    k1_pay3 i (ix2 r l) = scaleWord (i 1) l := by
  pointwise [k1_pay3]
  exact word_eq (i 1) l

theorem pay4_at (r : Fin 8) (l : Fin 128) : k1_pay4 (ix2 r l) = 0#32 := by pointwise [k1_pay4]

/-- The lane the gather reads. -/
theorem gather_lane : ∀ (j : Fin 32) (l : Fin 128),
    (Scalar.select (IntOp.cmpi .slt (scaleWord j l) 0#32) (IntOp.addi (scaleWord j l) 128#32) (scaleWord j l)).toNat % 128
      = 4 * j.val + l.val / 32 := by decide +kernel

theorem x_at (i : grid1.Coords) (s : FVec Ideal S8x128 .f32) (q : IVec S256x128 8) (l : Fin 128) (r : Fin 256) :
    k1_pay1 (F := Ideal) (k1_pay2 s) (k1_pay3 i) k1_pay4 q (ix2 l r)
      = deq (q (ix2 r l)) (s (ix2 ⟨r.val / 32, by omega⟩ ⟨4 * (i 1).val + l.val / 32, by have : (i 1).val < 32 := (i 1).isLt; omega⟩)) := by
  unfold deq
  pointwise [k1_pay1, k1_pay2, pay3_at, pay4_at]
  exact congrArg (fun u => (FloatOps.sitofp (F := Ideal) .bf16 (q (ix2 r l)) : EReal) * s (ix2 ⟨r.val / 32, by omega⟩ u)) (Fin.ext (gather_lane (i 1) l))

theorem idx1 : ∀ t : Fin cfg1.N, win1_0.index t = ![t.val / 32, t.val % 32] ∧ win1_1.index t = ![t.val / 32, 0]
    ∧ win1_2.index t = ![t.val % 32, t.val / 32] ∧ (grid1.coords t 1).val = t.val % 32 ∧ t.val < 2048 :=
  (by decide +kernel : ∀ t : Fin grid1.N, _)

theorem lt1 (t : Fin cfg1.N) : t.val < 2048 := (idx1 t).2.2.2.2

theorem x_in (c : Dev nD) (t : Fin cfg1.N) (r : Fin 256) (l : Fin 128) :
    (show IVec S256x128 8 from iblk1 V c 0 t) (ix2 r l)
      = (show IVec S16384x4096 8 from V c main_v0) (ix2 ⟨t.val / 32 * 256 + r.val, by have := lt1 t; omega⟩ ⟨t.val % 32 * 128 + l.val, by omega⟩) := by
  blk_point [iblk1, idx1 t]

theorem s_in (c : Dev nD) (t : Fin cfg1.N) (r : Fin 8) (l : Fin 128) :
    (show FVec Ideal S8x128 .f32 from iblk1 V c 1 t) (ix2 r l)
      = (show FVec Ideal S512x128 .f32 from V c main_v2) (ix2 ⟨t.val / 32 * 8 + r.val, by have := lt1 t; omega⟩ l) := by
  blk_point [iblk1, idx1 t]

theorem emb_x (t : Fin cfg1.N) (y : S128x256.Idx) :
    (((cfg1.win 2).blk t).view.emb y : S4096x16384.Idx)
      = ix2 ⟨t.val % 32 * 128 + (y 0).val, by have : (y 0).val < 128 := (y 0).isLt; omega⟩
          ⟨t.val / 32 * 256 + (y 1).val, by have := lt1 t; have : (y 1).val < 256 := (y 1).isLt; omega⟩ := by
  blk_ext [idx1 t]

/-- A point's block of the prepared array. -/
theorem xt_in (X : IVec S16384x4096 8) (S : FVec Ideal S512x128 .f32) (t : ℕ) (ht : t < 2048) (g : ℕ) (hg : g = t % 32) (l : Fin 128) (r : Fin 256)
    (h : 4 * g + l.val / 32 < 128) :
    deq (X (ix2 ⟨t / 32 * 256 + r.val, by omega⟩ ⟨t % 32 * 128 + l.val, by omega⟩))
        (S (ix2 ⟨t / 32 * 8 + r.val / 32, by omega⟩ ⟨4 * g + l.val / 32, h⟩))
      = xtVal X S ⟨t % 32 * 128 + l.val, by omega⟩ ⟨t / 32 * 256 + r.val, by omega⟩ := by
  unfold xtVal
  refine congrArg (fun u => deq _ (S u)) ((ix2_inj ..).2 ⟨Fin.ext ?_, Fin.ext ?_⟩)
  · show t / 32 * 8 + r.val / 32 = (t / 32 * 256 + r.val) / 32; omega
  · show 4 * g + l.val / 32 = (t % 32 * 128 + l.val) / 32; omega

/-- The prepared array. -/
theorem xt_final (c : Dev nD) : (dat1 V c).arrAt 2 cfg1.N = xtVals (V c main_v0) (V c main_v2) := by
  refine (dat1 V c).arrAt_eq_of_covers 2 _ (by decide +kernel) fun t _ y => ?_
  blk_simp
  rw [after1_2]
  frame_out
  refine (congrArg _ (eq_ix2 y)).trans ((x_at _ _ _ (y 0) (y 1)).trans ?_)
  refine (congr (congrArg deq (x_in V c t (y 1) (y 0))) (s_in V c t _ _)).trans ?_
  refine (xt_in (V c main_v0) (V c main_v2) t.val (lt1 t) _ (idx1 t).2.2.2.1 (y 0) (y 1) _).trans ?_
  exact (congrArg (xtVals (V c main_v0) (V c main_v2)) (emb_x t y)).symm

end Cert.KernelIdeal.Value
end
-- ==== Proof.Matmul.lean ====
/- The product array, as a function of the two arrays it reads. -/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-- The product of a 4096 x 16384 and a 16384 x 11008 matrix. -/
def mmVals (A : FVec Ideal S4096x16384 .bf16) (B : FVec Ideal S16384x11008 .bf16) : FVec Ideal S4096x11008 .f32 :=
  fun y => ∑ T : Fin 16384, A (ix2 (y 0) T) * B (ix2 T (y 1))

theorem zero_at (j : S512x5504.Idx) : k2_pay1 (F := Ideal) j = 0 := by pointwise [k2_pay1]

theorem acc_at (acc : FVec Ideal S512x5504 .f32) (a : FVec Ideal S512x1024 .bf16) (b : FVec Ideal S1024x5504 .bf16) (j : S512x5504.Idx) :
    k2_pay2 acc a b j = acc j + ∑ k : Fin 1024, a (ix2 (j 0) k) * b (ix2 k (j 1)) := by pointwise [k2_pay2]

theorem idx2 : ∀ t : Fin cfg2.N, win2_0.index t = ![t.val / 32, t.val % 16] ∧ win2_1.index t = ![t.val % 16, t.val / 16 % 2]
    ∧ win2_2.index t = ![t.val / 32, t.val / 16 % 2] ∧ t.val < 256 :=
  (by decide +kernel : ∀ t : Fin grid2.N, _)

/-- The product array. -/
theorem mm_final (c : Dev nD) : (dat2 V c).arrAt 2 cfg2.N = mmVals (V c main_v4) (V c main_v3_2) := by
  refine (dat2 V c).arrAt_eq_of_covers 2 _ (by decide +kernel) fun t hf y => ?_
  blk_simp
  rw [after2_2, Pipeline.eq_sum_fin_of_reset_step_apply_of_flush (fun n h => outsAt2 V c n h) 16 (fun _ => 0) _
    (fun t h j => by rw [outsAt2_A V c t h]; frame_out; rw [acc_at, zero_at])
    (fun t h j => by rw [outsAt2_B V c t h]; frame_out; rw [acc_at])
    t ((flush2_2 t).mp hf) _, zero_add]
  unfold mmVals
  refine Fin.sum_mul_add_congr fun s k hl => ?_
  blk_point [iblk2, idx2 t, idx2 ⟨_, Pipeline.run_point_lt_of_flush t ((flush2_2 t).mp hf) s⟩]

end Cert.KernelIdeal.Value
end
-- ==== Proof.Results.lean ====
/- The kernel's three results, as functions of its arguments. -/
module

public import proofs.«01_k».proof.Proof.Gen.KernelIdeal.Frame
public import proofs.«01_k».proof.Proof.QuantArray
public import proofs.«01_k».proof.Proof.XPrep
public import proofs.«01_k».proof.Proof.Matmul
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Spec

variable (m : (ℓ : Loc nD τ sig) → Buf (Elt Ideal) ℓ) (ρ : Dev nD → PrngReg)

/-- The rows of the gradient, batch axis folded in. -/
def dyRows (a2 : FVec Ideal S2x8192x11008 .bf16) : FVec Ideal S16384x11008 .bf16 := shapeCast _ a2 shapeCasts_S2x8192x11008_S16384x11008
def xRows (a0 : IVec S2x8192x4096 8) : IVec S16384x4096 8 := shapeCast _ a0 shapeCasts_S2x8192x4096_S16384x4096
def xsRows (a1 : FVec Ideal S2x256x128 .f32) : FVec Ideal S512x128 .f32 := shapeCast _ a1 shapeCasts_S2x256x128_S512x128

theorem V1_v1 (c : Dev nD) : V1 m ρ c main_v1 = dyRows (m ((c : Thread nD τ).loc main_arg2)) := by
  dsimp only [V1, W1]
  after_results
  rfl

theorem V1_v0 (c : Dev nD) : V1 m ρ c main_v0 = xRows (m ((c : Thread nD τ).loc main_arg0)) := by
  dsimp only [V1, W1]
  after_results
  rfl

theorem V1_v2 (c : Dev nD) : V1 m ρ c main_v2 = xsRows (m ((c : Thread nD τ).loc main_arg1)) := by
  dsimp only [V1, W1]
  after_results
  rfl

theorem V2_v0 (c : Dev nD) : V2 m ρ c main_v0 = xRows (m ((c : Thread nD τ).loc main_arg0)) :=
  (W2_of m ρ c main_v0 (by decide +kernel)).trans (V1_v0 m ρ c)

theorem V2_v2 (c : Dev nD) : V2 m ρ c main_v2 = xsRows (m ((c : Thread nD τ).loc main_arg1)) :=
  (W2_of m ρ c main_v2 (by decide +kernel)).trans (V1_v2 m ρ c)

theorem W2_codes (c : Dev nD) : W2 m ρ c (Proc.devRef .tc main_v3_0) = dyCodes (dyRows (m ((c : Thread nD τ).loc main_arg2))) :=
  (W2_arr m ρ c 1).trans ((codes_final (V1 m ρ) c).trans (congrArg dyCodes (V1_v1 m ρ c)))

theorem W2_scales (c : Dev nD) : W2 m ρ c (Proc.devRef .tc main_v3_1) = dyScales (dyRows (m ((c : Thread nD τ).loc main_arg2))) :=
  (W2_arr m ρ c 2).trans ((scales_final (V1 m ρ) c).trans (congrArg dyScales (V1_v1 m ρ c)))

theorem W2_deqs (c : Dev nD) : W2 m ρ c (Proc.devRef .tc main_v3_2) = dyDeqs (dyRows (m ((c : Thread nD τ).loc main_arg2))) :=
  (W2_arr m ρ c 3).trans ((deqs_final (V1 m ρ) c).trans (congrArg dyDeqs (V1_v1 m ρ c)))

theorem V3_xt (c : Dev nD) : V3 m ρ c main_v4
    = xtVals (xRows (m ((c : Thread nD τ).loc main_arg0))) (xsRows (m ((c : Thread nD τ).loc main_arg1))) :=
  (W3_arr m ρ c 2).trans ((xt_final (V2 m ρ) c).trans (congr (congrArg xtVals (V2_v0 m ρ c)) (V2_v2 m ρ c)))

theorem V3_deqs (c : Dev nD) : V3 m ρ c main_v3_2 = dyDeqs (dyRows (m ((c : Thread nD τ).loc main_arg2))) :=
  (W3_of m ρ c main_v3_2 (by decide +kernel)).trans (W2_deqs m ρ c)

theorem W4_mm (c : Dev nD) : W4 m ρ c (Proc.devRef .tc main_v5)
    = mmVals (xtVals (xRows (m ((c : Thread nD τ).loc main_arg0))) (xsRows (m ((c : Thread nD τ).loc main_arg1))))
        (dyDeqs (dyRows (m ((c : Thread nD τ).loc main_arg2)))) :=
  (W4_arr m ρ c 2).trans ((mm_final (V3 m ρ) c).trans (congr (congrArg mmVals (V3_xt m ρ c)) (V3_deqs m ρ c)))

theorem W4_codes (c : Dev nD) : W4 m ρ c (Proc.devRef .tc main_v3_0) = dyCodes (dyRows (m ((c : Thread nD τ).loc main_arg2))) :=
  (W4_of m ρ c main_v3_0 (by decide +kernel)).trans ((W3_of m ρ c main_v3_0 (by decide +kernel)).trans (W2_codes m ρ c))

theorem W4_scales (c : Dev nD) : W4 m ρ c (Proc.devRef .tc main_v3_1) = dyScales (dyRows (m ((c : Thread nD τ).loc main_arg2))) :=
  (W4_of m ρ c main_v3_1 (by decide +kernel)).trans ((W3_of m ρ c main_v3_1 (by decide +kernel)).trans (W2_scales m ρ c))

/-- The product. -/
theorem result0 (c : Dev nD) : W5 m ρ c (Proc.devRef .tc main_v5)
    = mmVals (xtVals (xRows (m ((c : Thread nD τ).loc main_arg0))) (xsRows (m ((c : Thread nD τ).loc main_arg1))))
        (dyDeqs (dyRows (m ((c : Thread nD τ).loc main_arg2)))) :=
  (W5_of m ρ c main_v5 (by decide +kernel)).trans (W4_mm m ρ c)

/-- The codes. -/
theorem result1 (c : Dev nD) : W5 m ρ c (Proc.devRef .tc main_v6)
    = shapeCast S2x8192x11008 (dyCodes (dyRows (m ((c : Thread nD τ).loc main_arg2)))) shapeCasts_S16384x11008_S2x8192x11008 := by
  rw [← W4_codes m ρ c]
  dsimp only [W5]
  after_results
  rfl

/-- The scales. -/
theorem result2 (c : Dev nD) : W5 m ρ c (Proc.devRef .tc main_v8)
    = shapeCast S2x256x344 (Host.slice S512x344 ![0, 0] ![1, 32] (dyScales (dyRows (m ((c : Thread nD τ).loc main_arg2))))
        slicesBy_S512x11008_S512x344_0s1_0s32) shapeCasts_S512x344_S2x256x344 := by
  rw [← W4_scales m ρ c]
  dsimp only [W5]
  after_results
  rfl

end Cert.KernelIdeal.Value
end
-- ==== Proof.Ref.lean ====
/- The reference's three results, read at an index. -/
module

public import proofs.«01_k».proof.Proof.Gen.ReferenceIdeal.Skeleton
public import proofs.«01_k».proof.Proof.Spec

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Spec

/-- The values in blocks of 32 rows. -/
theorem rows_at (x : FVec Ideal S2x8192x11008 .bf16) (b : Fin 2) (r : Fin 256) (p : Fin 32) (l : Fin 11008) :
    k0_pay2 (F := Ideal) x (ix4 b r p l) = x (ix3 b ⟨r.val * 32 + p.val, by omega⟩ l) := by
  pointwise [k0_pay2]

/-- The maximum over a block's rows. -/
theorem colMax_at (y : FVec Ideal S2x256x32x11008 .f32) (b : Fin 2) (r : Fin 256) (l : Fin 11008) :
    multiReduction .maximumf [2] S2x256x11008 (absf y) 0xFF800000#32 reduces_S2x256x32x11008_S2x256x11008 (.inl rfl) rfl (ix3 b r l)
      = colMax fun p => y (ix4 b r p l) := by
  unfold colMax
  pointwise

/-- The maximum over a block's columns. -/
theorem fold_at (y : FVec Ideal S2x256x11008 .f32) (b : Fin 2) (r : Fin 256) (l : Fin 344) :
    multiReduction .maximumf [3] S2x256x344 (shapeCast S2x256x344x32 y shapeCasts_S2x256x11008_S2x256x344x32) 0xFF800000#32
        reduces_S2x256x344x32_S2x256x344 (.inl rfl) rfl (ix3 b r l)
      = Finset.univ.fold max NEG fun q : Fin 32 => y (ix3 b r ⟨l.val * 32 + q.val, by omega⟩) := by
  pointwise

/-- The scale of a block, from the block's maximum. -/
theorem pick_at (a : FVec Ideal S2x256x344 .f32) (b : Fin 2) (r : Fin 256) (l : Fin 344) :
    select (cmpf .oeq a (broadcast S2x256x344 (Scalar.ofBits (F := Ideal) .f32 0x00000000#32)))
        (broadcast S2x256x344 (Scalar.ofBits (F := Ideal) .f32 0x3F800000#32))
        (divf a (broadcast S2x256x344 (Scalar.ofBits (F := Ideal) .f32 0x42FE0000#32))) (ix3 b r l)
      = scaleOf (a (ix3 b r l)) := by
  unfold scaleOf
  pointwise

/-- The scale of the block in row group `r`, column group `l`. -/
def scl (x : FVec Ideal S2x8192x11008 .bf16) (b : Fin 2) (r : Fin 256) (l : Fin 344) : EReal :=
  scaleOf (blockMax fun p q => x (ix3 b ⟨r.val * 32 + p.val, by omega⟩ ⟨l.val * 32 + q.val, by omega⟩))

theorem scale_at (x : FVec Ideal S2x8192x11008 .bf16) (b : Fin 2) (r : Fin 256) (l : Fin 344) :
    k0_pay3 (F := Ideal) x (ix3 b r l) = scl x b r l := by
  unfold k0_pay3 scl blockMax
  refine (pick_at _ b r l).trans (congrArg scaleOf ((fold_at _ b r l).trans ?_))
  refine congrArg (Finset.univ.fold max NEG) (funext fun q => ?_)
  refine (colMax_at _ b r _).trans (congrArg colMax (funext fun p => ?_))
  exact rows_at x b r p _

/-- A block's scale repeated over its columns and rows. -/
theorem spread_at (s : FVec Ideal S2x256x344 .f32) (b : Fin 2) (r : Fin 256) (p : Fin 32) (l : Fin 11008) :
    broadcastTo S2x256x32x11008 (shapeCast S2x256x1x11008 (shapeCast S2x256x11008 (broadcastTo S2x256x344x32
        (shapeCast S2x256x344x1 s shapeCasts_S2x256x344_S2x256x344x1) broadcasts_S2x256x344x1_S2x256x344x32)
        shapeCasts_S2x256x344x32_S2x256x11008) shapeCasts_S2x256x11008_S2x256x1x11008) broadcasts_S2x256x1x11008_S2x256x32x11008 (ix4 b r p l)
      = s (ix3 b r ⟨l.val / 32, by omega⟩) := by
  pointwise

/-- Dropping the grouping of the rows. -/
theorem merge_at {α : Type} (y : S2x256x32x11008.Idx → α) (b : Fin 2) (r : Fin 8192) (l : Fin 11008) :
    shapeCast S2x8192x11008 y shapeCasts_S2x256x32x11008_S2x8192x11008 (ix3 b r l)
      = y (ix4 b ⟨r.val / 32, by omega⟩ ⟨r.val % 32, by omega⟩ l) := by
  pointwise

/-- The code of an element, from the value and its scale. -/
theorem code_at (v s : FVec Ideal S2x256x32x11008 .f32) (b : Fin 2) (r : Fin 256) (p : Fin 32) (l : Fin 11008) :
    fptosi 8 (minimumf (broadcast S2x256x32x11008 (Scalar.sitofp (F := Ideal) .f32 127#32))
        (maximumf (broadcast S2x256x32x11008 (Scalar.sitofp (F := Ideal) .f32 4294967169#32)) (roundeven (divf v s)))) (ix4 b r p l)
      = codeOf (v (ix4 b r p l)) (s (ix4 b r p l)) := by
  unfold codeOf
  pointwise

theorem codes_at (x : FVec Ideal S2x8192x11008 .bf16) (b : Fin 2) (r : Fin 8192) (l : Fin 11008) :
    k0_pay4 (F := Ideal) x (ix3 b r l) = codeOf (x (ix3 b r l)) (scl x b ⟨r.val / 32, by omega⟩ ⟨l.val / 32, by omega⟩) := by
  unfold k0_pay4
  refine (merge_at _ b r l).trans ((code_at _ _ b _ _ l).trans (congrArg₂ codeOf ?_ ?_))
  · refine (rows_at x b _ _ l).trans (congrArg (fun k => x (ix3 b k l)) (Fin.ext ?_))
    show r.val / 32 * 32 + r.val % 32 = r.val
    omega
  · exact (spread_at _ b _ _ l).trans (scale_at x b _ _)

/-- The product, with both operands dequantised element by element. -/
theorem product_at (s : FVec Ideal S2x256x344 .f32) (q : IVec S2x8192x11008 8) (x : IVec S2x8192x4096 8)
    (xs : FVec Ideal S2x256x128 .f32) (i : Fin 4096) (l : Fin 11008) :
    k0_pay1 (F := Ideal) s q x (k0_pay5 xs) (ix2 i l)
      = ∑ t : Fin 16384,
          deq (x (ix3 ⟨t.val / 8192, by omega⟩ ⟨t.val % 8192, by omega⟩ i)) (xs (ix3 ⟨t.val / 8192, by omega⟩ ⟨t.val % 8192 / 32, by omega⟩ ⟨i.val / 32, by omega⟩))
          * deq (q (ix3 ⟨t.val / 8192, by omega⟩ ⟨t.val % 8192, by omega⟩ l)) (s (ix3 ⟨t.val / 8192, by omega⟩ ⟨t.val % 8192 / 32, by omega⟩ ⟨l.val / 32, by omega⟩)) := by
  unfold deq
  pointwise [k0_pay1, k0_pay5]
  refine Finset.sum_congr rfl fun t _ => ?_
  have e1 : t.val / 32 % 256 = t.val % 8192 / 32 := by omega
  have e2 : t.val % 8192 / 32 * 32 + t.val % 32 = t.val % 8192 := by omega
  simp only [e1, e2]

end Cert.ReferenceIdeal.Value
end
-- ==== Proof.Equal.lean ====
/- The kernel's results and the reference's, compared index by index. -/
module

public import proofs.«01_k».proof.Proof.Results
public import proofs.«01_k».proof.Proof.Ref
public import proofs.«01_k».proof.Proof.Gen.ReferenceIdeal.Value

@[expose] public section

set_option maxRecDepth 16384

noncomputable section

namespace Cert.Equal

open Idealize.ShloMosaic
open Cert.KernelIdeal Cert.KernelIdeal.Value Cert.Spec

abbrev Dy := FVec Ideal S2x8192x11008 .bf16

theorem dyRows_at (a2 : Dy) (T : Fin 16384) (l : Fin 11008) :
    dyRows a2 (ix2 T l) = a2 (ix3 ⟨T.val / 8192, by omega⟩ ⟨T.val % 8192, by omega⟩ l) := by
  pointwise [dyRows]

theorem xRows_at (a0 : IVec S2x8192x4096 8) (T : Fin 16384) (l : Fin 4096) :
    xRows a0 (ix2 T l) = a0 (ix3 ⟨T.val / 8192, by omega⟩ ⟨T.val % 8192, by omega⟩ l) := by
  pointwise [xRows]

theorem xsRows_at (a1 : FVec Ideal S2x256x128 .f32) (T : Fin 512) (l : Fin 128) :
    xsRows a1 (ix2 T l) = a1 (ix3 ⟨T.val / 256, by omega⟩ ⟨T.val % 256, by omega⟩ l) := by
  pointwise [xsRows]

theorem scale_eq (a2 : Dy) (R : Fin 512) (l : Fin 11008) (b : Fin 2) (r : Fin 256) (k : Fin 344)
    (hR : R.val = b.val * 256 + r.val) (hk : k.val = l.val / 32) :
    dyScale (dyRows a2) R l = Cert.ReferenceIdeal.Value.scl a2 b r k := by
  unfold dyScale Cert.ReferenceIdeal.Value.scl
  refine congrArg scaleOf (congrArg blockMax (funext fun p => funext fun q => (dyRows_at a2 _ _).trans (congrArg a2 ?_)))
  exact (ix3_inj ..).2 ⟨Fin.ext (show (R.val * 32 + p.val) / 8192 = b.val by omega),
    Fin.ext (show (R.val * 32 + p.val) % 8192 = r.val * 32 + p.val by omega),
    Fin.ext (show l.val / 32 * 32 + q.val = k.val * 32 + q.val by omega)⟩

theorem code_eq (a2 : Dy) (T : Fin 16384) (l : Fin 11008) (b : Fin 2) (r : Fin 8192) (hT : T.val = b.val * 8192 + r.val) :
    dyCode (dyRows a2) T l = Cert.ReferenceIdeal.Gen.k0_pay4 (F := Ideal) a2 (ix3 b r l) := by
  refine Eq.trans ?_ (Cert.ReferenceIdeal.Value.codes_at a2 b r l).symm
  unfold dyCode
  refine congr (congrArg codeOf ((dyRows_at a2 T l).trans (congrArg a2 ?_))) (scale_eq a2 _ l b _ _ ?_ rfl)
  · exact (ix3_inj ..).2 ⟨Fin.ext (show T.val / 8192 = b.val by omega), Fin.ext (show T.val % 8192 = r.val by omega), rfl⟩
  · show T.val / 32 = b.val * 256 + r.val / 32; omega

/-- The codes agree. -/
theorem codes (a2 : Dy) :
    shapeCast S2x8192x11008 (dyCodes (dyRows a2)) Cert.KernelIdeal.Gen.shapeCasts_S16384x11008_S2x8192x11008
      = Cert.ReferenceIdeal.Gen.k0_pay4 (F := Ideal) a2 := by
  funext y
  have e : ∀ (b : Fin 2) (r : Fin 8192) (l : Fin 11008),
      shapeCast S2x8192x11008 (dyCodes (dyRows a2)) Cert.KernelIdeal.Gen.shapeCasts_S16384x11008_S2x8192x11008 (ix3 b r l)
        = dyCodes (dyRows a2) (ix2 ⟨b.val * 8192 + r.val, by omega⟩ l) := fun b r l => by pointwise []
  refine (congrArg _ (eq_ix3 y)).trans ((e (y 0) (y 1) (y 2)).trans ?_)
  exact (code_eq a2 _ (y 2) (y 0) (y 1) rfl).trans (congrArg _ (eq_ix3 y).symm)

/-- The scales agree. -/
theorem scales (a2 : Dy) :
    shapeCast S2x256x344 (Host.slice S512x344 ![0, 0] ![1, 32] (dyScales (dyRows a2)) Cert.KernelIdeal.Gen.slicesBy_S512x11008_S512x344_0s1_0s32)
        Cert.KernelIdeal.Gen.shapeCasts_S512x344_S2x256x344
      = Cert.ReferenceIdeal.Gen.k0_pay3 (F := Ideal) a2 := by
  funext y
  have e : ∀ (b : Fin 2) (r : Fin 256) (l : Fin 344),
      shapeCast S2x256x344 (Host.slice S512x344 ![0, 0] ![1, 32] (dyScales (dyRows a2)) Cert.KernelIdeal.Gen.slicesBy_S512x11008_S512x344_0s1_0s32)
        Cert.KernelIdeal.Gen.shapeCasts_S512x344_S2x256x344 (ix3 b r l)
        = dyScales (dyRows a2) (ix2 ⟨b.val * 256 + r.val, by omega⟩ ⟨32 * l.val, by omega⟩) := fun b r l => by pointwise []
  refine (congrArg _ (eq_ix3 y)).trans ((e (y 0) (y 1) (y 2)).trans ?_)
  refine (scale_eq a2 _ _ (y 0) (y 1) (y 2) rfl ?_).trans
    ((Cert.ReferenceIdeal.Value.scale_at a2 (y 0) (y 1) (y 2)).symm.trans (congrArg _ (eq_ix3 y).symm))
  show (y 2).val = 32 * (y 2).val / 32
  omega

theorem xt_eq (a0 : IVec S2x8192x4096 8) (a1 : FVec Ideal S2x256x128 .f32) (i : Fin 4096) (T : Fin 16384) :
    xtVal (xRows a0) (xsRows a1) i T
      = deq (a0 (ix3 ⟨T.val / 8192, by omega⟩ ⟨T.val % 8192, by omega⟩ i))
          (a1 (ix3 ⟨T.val / 8192, by omega⟩ ⟨T.val % 8192 / 32, by omega⟩ ⟨i.val / 32, by omega⟩)) := by
  unfold xtVal
  refine congr (congrArg deq (xRows_at a0 T i)) ((xsRows_at a1 _ _).trans (congrArg a1 ?_))
  exact (ix3_inj ..).2 ⟨Fin.ext (show T.val / 32 / 256 = T.val / 8192 by omega),
    Fin.ext (show T.val / 32 % 256 = T.val % 8192 / 32 by omega), rfl⟩

theorem deq_eq (a2 : Dy) (T : Fin 16384) (l : Fin 11008) :
    dyDeq (dyRows a2) T l
      = deq (Cert.ReferenceIdeal.Gen.k0_pay4 (F := Ideal) a2 (ix3 ⟨T.val / 8192, by omega⟩ ⟨T.val % 8192, by omega⟩ l))
          (Cert.ReferenceIdeal.Gen.k0_pay3 (F := Ideal) a2 (ix3 ⟨T.val / 8192, by omega⟩ ⟨T.val % 8192 / 32, by omega⟩ ⟨l.val / 32, by omega⟩)) := by
  unfold dyDeq
  refine congr (congrArg deq (code_eq a2 T l _ _ ?_)) ((scale_eq a2 _ l _ _ _ ?_ rfl).trans (Cert.ReferenceIdeal.Value.scale_at a2 _ _ _).symm)
  · show T.val = T.val / 8192 * 8192 + T.val % 8192; omega
  · show T.val / 32 = T.val / 8192 * 256 + T.val % 8192 / 32; omega

/-- The products agree. -/
theorem product (a0 : IVec S2x8192x4096 8) (a1 : FVec Ideal S2x256x128 .f32) (a2 : Dy) :
    mmVals (xtVals (xRows a0) (xsRows a1)) (dyDeqs (dyRows a2))
      = Cert.ReferenceIdeal.Gen.k0_pay1 (F := Ideal) (Cert.ReferenceIdeal.Gen.k0_pay3 (F := Ideal) a2) (Cert.ReferenceIdeal.Gen.k0_pay4 (F := Ideal) a2) a0
          (Cert.ReferenceIdeal.Gen.k0_pay5 (F := Ideal) a1) := by
  funext y
  refine Eq.trans ?_ ((Cert.ReferenceIdeal.Value.product_at (Cert.ReferenceIdeal.Gen.k0_pay3 (F := Ideal) a2)
    (Cert.ReferenceIdeal.Gen.k0_pay4 (F := Ideal) a2) a0 a1 (y 0) (y 1)).symm.trans (congrArg _ (eq_ix2 y).symm))
  unfold mmVals
  refine Finset.sum_congr rfl fun T _ => ?_
  exact congr (congrArg (fun u v : EReal => u * v) (xt_eq a0 a1 (y 0) T)) (deq_eq a2 T (y 1))

end Cert.Equal
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelRun
public import proofs.«01_k».proof.Proof.Results
public import proofs.«01_k».proof.Proof.Equal
public import Idealize.ShloMosaic.Adequacy
public import Idealize.ShloMosaic.Init

@[expose] public section

noncomputable section

namespace Cert.Proof

open Idealize.ShloMosaic Idealize.SL.Sem Cert.Kernel

instance : Cert.KernelIdeal.Facts := Cert.KernelIdeal.Gen.facts
instance : Cert.ReferenceIdeal.Facts := Cert.ReferenceIdeal.Gen.facts

/-- From the same arguments the kernel and the reference end with the same three results. -/
theorem algebraic : Cert.algebraic_KernelIdeal_ReferenceIdeal := by
  intro m g m' g' _ hargs
  refine ⟨fun c => Cert.KernelIdeal.Gen.W5 m g c (Proc.devRef .tc Cert.KernelIdeal.main_v5),
    fun c => Cert.KernelIdeal.Gen.W5 m g c (Proc.devRef .tc Cert.KernelIdeal.main_v6),
    fun c => Cert.KernelIdeal.Gen.W5 m g c (Proc.devRef .tc Cert.KernelIdeal.main_v8),
    Cert.KernelIdeal.Value.run m g,
    (θ_run _ _ _).mono (fun r h c => ?_) (Cert.ReferenceIdeal.Value.run m' g')⟩
  obtain ⟨e0, e1, e2⟩ := hargs c
  obtain ⟨h0, h1, h2, k0, k1, k2⟩ := h c
  rw [e0, e1, e2] at h0 h1 h2
  exact ⟨h0.trans ((Cert.Equal.product _ _ _).symm.trans (Cert.KernelIdeal.Value.result0 m g c).symm),
    h1.trans ((Cert.Equal.codes _).symm.trans (Cert.KernelIdeal.Value.result1 m g c).symm),
    h2.trans ((Cert.Equal.scales _).symm.trans (Cert.KernelIdeal.Value.result2 m g c).symm), k0, k1, k2⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
